-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x1024x3584 : Shape := ⟨3, ![3, 1024, 3584]⟩
abbrev S3x1024x1 : Shape := ⟨3, ![3, 1024, 1]⟩
abbrev S3584x3584 : Shape := ⟨2, ![3584, 3584]⟩
abbrev S3584 : Shape := ⟨1, ![3584]⟩
abbrev S3072x3584 : Shape := ⟨2, ![3072, 3584]⟩
abbrev S1x3072 : Shape := ⟨2, ![1, 3072]⟩
abbrev S512x3584 : Shape := ⟨2, ![512, 3584]⟩
abbrev S1x512 : Shape := ⟨2, ![1, 512]⟩
abbrev S3584x1792 : Shape := ⟨2, ![3584, 1792]⟩
abbrev S512x1792 : Shape := ⟨2, ![512, 1792]⟩
abbrev S8x512 : Shape := ⟨2, ![8, 512]⟩
abbrev S512x8 : Shape := ⟨2, ![512, 8]⟩
abbrev S512x1 : Shape := ⟨2, ![512, 1]⟩
abbrev S1792 : Shape := ⟨1, ![1792]⟩
abbrev S1x1792 : Shape := ⟨2, ![1, 1792]⟩

abbrev nBuf : Space → Nat
  | .hbm => 10
  | .vmem => 11
  | .smem => 0
  | _ => 0

abbrev bufTy : (tb : Table) → Fin (tcTables nBuf tb) → BufTy
  | .hbm, ⟨0, _⟩ => ⟨S3x1024x3584, .fp8e4m3⟩
  | .hbm, ⟨1, _⟩ => ⟨S3x1024x1, .f32⟩
  | .hbm, ⟨2, _⟩ => ⟨S3584x3584, .fp8e4m3⟩
  | .hbm, ⟨3, _⟩ => ⟨S3584, .f32⟩
  | .hbm, ⟨4, _⟩ => ⟨S3x1024x3584, .bf16⟩
  | .hbm, ⟨5, _⟩ => ⟨S3072x3584, .fp8e4m3⟩
  | .hbm, ⟨6, _⟩ => ⟨S1x3072, .f32⟩
  | .hbm, ⟨7, _⟩ => ⟨S3072x3584, .bf16⟩
  | .hbm, ⟨8, _⟩ => ⟨S3072x3584, .bf16⟩
  | .hbm, ⟨9, _⟩ => ⟨S3x1024x3584, .bf16⟩
  | .local _ .vmem, ⟨0, _⟩ => ⟨S512x3584, .fp8e4m3⟩
  | .local _ .vmem, ⟨1, _⟩ => ⟨S512x3584, .fp8e4m3⟩
  | .local _ .vmem, ⟨2, _⟩ => ⟨S1x512, .f32⟩
  | .local _ .vmem, ⟨3, _⟩ => ⟨S1x512, .f32⟩
  | .local _ .vmem, ⟨4, _⟩ => ⟨S3584x1792, .fp8e4m3⟩
  | .local _ .vmem, ⟨5, _⟩ => ⟨S3584x1792, .fp8e4m3⟩
  | .local _ .vmem, ⟨6, _⟩ => ⟨S3584, .f32⟩
  | .local _ .vmem, ⟨7, _⟩ => ⟨S512x1792, .bf16⟩
  | .local _ .vmem, ⟨8, _⟩ => ⟨S512x1792, .bf16⟩
  | .local _ .vmem, ⟨9, _⟩ => ⟨S512x1792, .bf16⟩
  | .local _ .vmem, ⟨10, _⟩ => ⟨S512x1792, .bf16⟩
  | _, _ => ⟨S3x1024x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 6], ![false, false]⟩

def k0_off1 (i : grid0.Coords) : Fin 1 → Nat :=
  let arg0 : BitVec 32 := BitVec.ofNat 32 (i 0).val
  let c1792_i32 : BitVec 32 := 1792#32
  let v6 : BitVec 32 := Scalar.muli arg0 c1792_i32
  let v7 : Index := Scalar.indexCast v6
  ![v7.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3584x1792 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1792 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S3x1024x3584 : Shape := ⟨3, ![3, 1024, 3584]⟩
abbrev S3x1024x1 : Shape := ⟨3, ![3, 1024, 1]⟩
abbrev S3584x3584 : Shape := ⟨2, ![3584, 3584]⟩
abbrev S3584 : Shape := ⟨1, ![3584]⟩
abbrev S1x1x3584 : Shape := ⟨3, ![1, 1, 3584]⟩

abbrev nBuf : Space → Nat
  | .hbm => 6
  | .vmem => 6
  | .smem => 0
  | _ => 0

abbrev bufTy : (tb : Table) → Fin (tcTables nBuf tb) → BufTy
  | .hbm, ⟨0, _⟩ => ⟨S3x1024x3584, .fp8e4m3⟩
  | .hbm, ⟨1, _⟩ => ⟨S3x1024x1, .f32⟩
  | .hbm, ⟨2, _⟩ => ⟨S3584x3584, .fp8e4m3⟩
  | .hbm, ⟨3, _⟩ => ⟨S3584, .f32⟩
  | .hbm, ⟨4, _⟩ => ⟨S3x1024x3584, .bf16⟩
  | .hbm, ⟨5, _⟩ => ⟨S3x1024x3584, .bf16⟩
  | .local _ .vmem, ⟨0, _⟩ => ⟨S3x1024x3584, .fp8e4m3⟩
  | .local _ .vmem, ⟨1, _⟩ => ⟨S3x1024x1, .f32⟩
  | .local _ .vmem, ⟨2, _⟩ => ⟨S3584x3584, .fp8e4m3⟩
  | .local _ .vmem, ⟨3, _⟩ => ⟨S3584, .f32⟩
  | .local _ .vmem, ⟨4, _⟩ => ⟨S3x1024x3584, .bf16⟩
  | .local _ .vmem, ⟨5, _⟩ => ⟨S3x1024x3584, .bf16⟩
  | _, _ => ⟨S3x1024x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x1024x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x1024x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Block.lean ====
/-
  WHAT ONE BLOCK COMPUTES, at the ideal instance (extended reals, exact operations): the kernel body's one stored value
  (`k0_pay1`), read at row `p` and column `q` of its block, is

      (∑ k, x[p, k] · w[k, q]) · xs[0, p] · ws[q] + res[p, q]

  of the blocks `x`, `w`, `xs`, `ws`, `res` that the body loads (`block_apply`); and the reference body's one stored value,
  read at batch `b`, row `s` and column `q`, is the same formula of its whole arrays (`reference_apply`).
-/
module

public import proofs.«01_k».proof.Proof.Gen.KernelIdeal.Skeleton
public import proofs.«01_k».proof.Proof.Gen.ReferenceIdeal.Skeleton
public import Idealize.ShloMosaic.Lib.Pointwise

@[expose] public section

noncomputable section

namespace Cert.Proof.Block

open Idealize.ShloMosaic
open scoped BigOperators

section Kernel
open Cert.KernelIdeal Cert.KernelIdeal.Gen

/-- The kernel body's stored value at row `p`, column `q` of the block: the product's element, times the row's scale,
    times the column's scale, plus the residual. -/
theorem block_apply (xs : Vec Ideal S1x512 .f32) (ws : Vec Ideal S1792 .f32) (x : Vec Ideal S512x3584 .fp8e4m3)
    (w : Vec Ideal S3584x1792 .fp8e4m3) (res : Vec Ideal S512x1792 .bf16) (p : Fin 512) (q : Fin 1792) :
    (k0_pay1 xs ws x w res (ix2 p q) : EReal)
      = (∑ k : Fin 3584, (x (ix2 p k) : EReal) * w (ix2 k q)) * xs (ix2 0 p) * ws (ix1 q) + res (ix2 p q) := by
  unfold_payloads
  pointwise

end Kernel

section Reference
open Cert.ReferenceIdeal Cert.ReferenceIdeal.Gen

/-- The reference body's stored value at batch `b`, row `s`, column `q`. -/
theorem reference_apply (x : Vec Ideal S3x1024x3584 .fp8e4m3) (w : Vec Ideal S3584x3584 .fp8e4m3)
    (xs : Vec Ideal S3x1024x1 .f32) (ws : Vec Ideal S3584 .f32) (res : Vec Ideal S3x1024x3584 .bf16)
    (b : Fin 3) (s : Fin 1024) (q : Fin 3584) :
    (k0_pay1 x w xs ws res (ix3 b s q) : EReal)
      = (∑ k : Fin 3584, (x (ix3 b s k) : EReal) * w (ix2 k q)) * xs (ix3 b s 0) * ws (ix1 q) + res (ix3 b s q) := by
  unfold_payloads
  pointwise

end Reference

end Cert.Proof.Block

end
-- ==== Proof.Array.lean ====
/-
  WHAT THE RESULT ARRAY HOLDS after the run of the tiled kernel, at the ideal instance.

  Grid point `t` computes one block of 512 rows by 1792 columns. Its input blocks are the same rows of the flattened
  activations, row scales and residual, and the same columns of the weights and column scales. So every block the kernel
  writes back is a block of one array formula `G` (`flushed_eq`); the blocks cover the array (`covered`); hence the array
  ends at `G` (`final`).
-/
module

public import proofs.«01_k».proof.Proof.Block
public import proofs.«01_k».proof.Proof.Gen.KernelIdeal.Frame
public import Idealize.ShloMosaic.Lib.Pipeline.Value

@[expose] public section

noncomputable section

namespace Cert.Proof.Array

open Cert.KernelIdeal Cert.KernelIdeal.Gen Idealize.ShloMosaic Idealize.ShloMosaic.TcCoe Idealize.SL.Sem
open Idealize.ShloMosaic.Pipeline (Dat)
open scoped BigOperators

/-! ## The body's one store, read back as a value -/

section Store

variable {F : FTy → Type} [FloatOps F]

theorem hz : (![0, 0] : Fin 2 → Nat) = fun _ => 0 := funext fun a => by fin_cases a <;> rfl

/-- The 1792 column scales the body loads at grid point `i`, out of all of them. -/
abbrev scales (i : grid0.Coords) (x3 : Vec F S3584 .f32) : Vec F S1792 .f32 :=
  View.ld x3 (Rect.unit (s := S3584) (k0_off1 i) S1792.size (k0_off1_inb i))

/-- What the body leaves in the output's staging buffer: its stored value at the input blocks. -/
theorem out_eq (c : Dev nD) (i : grid0.Coords)
    (arg2 : Memref sig .tc .vmem S512x3584 .fp8e4m3) (harg2 : arg2.IsWhole)
    (arg3 : Memref sig .tc .vmem S1x512 .f32) (harg3 : arg3.IsWhole)
    (arg4 : Memref sig .tc .vmem S3584x1792 .fp8e4m3) (harg4 : arg4.IsWhole)
    (arg5 : Memref sig .tc .vmem S3584 .f32) (harg5 : arg5.IsWhole)
    (arg6 : Memref sig .tc .vmem S512x1792 .bf16) (harg6 : arg6.IsWhole)
    (arg7 : Memref sig .tc .vmem S512x1792 .bf16) (harg7 : arg7.IsWhole)
    (x0 : Vec F S512x3584 .fp8e4m3) (x1 : Vec F S1x512 .f32) (x2 : Vec F S3584x1792 .fp8e4m3) (x3 : Vec F S3584 .f32)
    (x4 : Vec F S512x1792 .bf16) :
    out0_A_5 c i arg2 harg2 arg3 harg3 arg4 harg4 arg5 harg5 arg6 harg6 arg7 harg7 x0 x1 x2 x3 x4
      = k0_pay1 x1 (scales i x3) x0 x2 x4 := by
  unfold out0_A_5
  rw [View.read_writes_eq_canon _ _ _ (cover0_A_5 c i arg2 harg2 arg3 harg3 arg4 harg4 arg5 harg5 arg6 harg6 arg7 harg7 x0 x1 x2 x3 x4)]
  unfold kernelRun0_A
  dsimp only
  sl_unfold_words
  rw [View.canon_unit_zero hz]
  simp only [View.readAt_eq_ld, harg2.read_unread, harg3.read_unread, harg4.read_unread, harg5.read_unread,
    harg6.read_unread, View.ld_unit_zero (S := S512x3584) hz, View.ld_unit_zero (S := S1x512) hz,
    View.ld_unit_zero (S := S3584x1792) hz, View.ld_unit_zero (S := S512x1792) hz]
  rfl

end Store

/-! ## The array, block by block -/

variable (m : (ℓ : Loc nD τ sig) → Buf (Elt Ideal) ℓ)

/-- The array formula: at row `r`, column `q`, the product's element times the row's scale times the column's scale,
    plus the residual. -/
def G (x : Vec Ideal S3072x3584 .fp8e4m3) (xs : Vec Ideal S1x3072 .f32) (w : Vec Ideal S3584x3584 .fp8e4m3)
    (ws : Vec Ideal S3584 .f32) (res : Vec Ideal S3072x3584 .bf16) : Vec Ideal S3072x3584 .bf16 := fun i =>
  ((∑ k : Fin 3584, (x (ix2 (i 0) k) : EReal) * w (ix2 k (i 1))) * xs (ix2 0 (i 0)) * ws (ix1 (i 1)) + res i : EReal)

/-- The array formula at the arrays the kernel is entered with. -/
abbrev result (c : Dev nD) : Vec Ideal S3072x3584 .bf16 :=
  G (V m c main_v0) (V m c main_v1) (V m c main_arg2) (V m c main_arg3) (V m c main_v2)

/-- Every window's block index at every grid point, against the output's: the row blocks of the activations, row scales
    and residual are the output's; the column blocks of the weights, column scales and residual are the output's. -/
theorem idx_facts : ∀ t : Fin cfg0.N,
    win0_0.index t 0 = win0_5.index t 0 ∧ win0_0.index t 1 = 0
    ∧ win0_1.index t 0 = 0 ∧ win0_1.index t 1 = win0_5.index t 0
    ∧ win0_2.index t 0 = 0 ∧ win0_2.index t 1 = win0_5.index t 1
    ∧ win0_3.index t 0 = 0 ∧ k0_off1 (grid0.coords t) 0 = 1792 * win0_5.index t 1
    ∧ win0_4.index t 0 = win0_5.index t 0 ∧ win0_4.index t 1 = win0_5.index t 1 :=
  (by decide +kernel : ∀ t : Fin grid0.N, _)

/-- Every pair of a row block and a column block is some grid point's. -/
theorem idx_onto : ∀ (a : Fin 6) (b : Fin 2), ∃ t : Fin cfg0.N, win0_5.index t 0 = a.val ∧ win0_5.index t 1 = b.val :=
  (by decide +kernel : ∀ (a : Fin 6) (b : Fin 2), ∃ t : Fin grid0.N, _)

/-- Where element `(p, q)` of the output block of point `t` sits in the result array. -/
abbrev place (t : Fin cfg0.N) (p : Fin 512) (q : Fin 1792) : S3072x3584.Idx := ((cfg0.win 5).blk t).view.emb (ix2 p q)

/-- Row `p` of the activations' block is the row of the flattened activations that `place` names. -/
theorem x_at (c : Dev nD) (t : Fin cfg0.N) (p : Fin 512) (q : Fin 1792) (k : Fin 3584) :
    (iblk m c 0 t : Vec Ideal S512x3584 .fp8e4m3) (ix2 p k) = (V m c main_v0 : Vec Ideal S3072x3584 .fp8e4m3) (ix2 (place t p q 0) k) := by
  obtain ⟨e0, e1, -⟩ := idx_facts t
  show V m c main_v0 (((cfg0.win 0).blk t).view.emb (ix2 p k)) = _
  refine congrArg (V m c main_v0) (funext fun a => Fin.ext ?_)
  match a with
  | ⟨0, _⟩ => show win0_0.index t 0 * 512 + 1 * p.val = win0_5.index t 0 * 512 + 1 * p.val; rw [e0]
  | ⟨1, _⟩ => show win0_0.index t 1 * 3584 + 1 * k.val = k.val; rw [e1]; omega

/-- Entry `p` of the row scales' block is the row scale of that row. -/
theorem xs_at (c : Dev nD) (t : Fin cfg0.N) (p : Fin 512) (q : Fin 1792) :
    (iblk m c 1 t : Vec Ideal S1x512 .f32) (ix2 0 p) = (V m c main_v1 : Vec Ideal S1x3072 .f32) (ix2 0 (place t p q 0)) := by
  obtain ⟨-, -, e2, e3, -⟩ := idx_facts t
  show V m c main_v1 (((cfg0.win 1).blk t).view.emb (ix2 0 p)) = _
  refine congrArg (V m c main_v1) (funext fun a => Fin.ext ?_)
  match a with
  | ⟨0, _⟩ => show win0_1.index t 0 * 1 + 1 * 0 = 0; rw [e2]
  | ⟨1, _⟩ => show win0_1.index t 1 * 512 + 1 * p.val = win0_5.index t 0 * 512 + 1 * p.val; rw [e3]

/-- Column `q` of the weights' block is the column of the weights that `place` names. -/
theorem w_at (c : Dev nD) (t : Fin cfg0.N) (p : Fin 512) (q : Fin 1792) (k : Fin 3584) :
    (iblk m c 2 t : Vec Ideal S3584x1792 .fp8e4m3) (ix2 k q) = (V m c main_arg2 : Vec Ideal S3584x3584 .fp8e4m3) (ix2 k (place t p q 1)) := by
  obtain ⟨-, -, -, -, e4, e5, -⟩ := idx_facts t
  show V m c main_arg2 (((cfg0.win 2).blk t).view.emb (ix2 k q)) = _
  refine congrArg (V m c main_arg2) (funext fun a => Fin.ext ?_)
  match a with
  | ⟨0, _⟩ => show win0_2.index t 0 * 3584 + 1 * k.val = k.val; rw [e4]; omega
  | ⟨1, _⟩ => show win0_2.index t 1 * 1792 + 1 * q.val = win0_5.index t 1 * 1792 + 1 * q.val; rw [e5]

/-- Entry `q` of the column scales loaded at point `t` is the column scale of that column. -/
theorem ws_at (c : Dev nD) (t : Fin cfg0.N) (p : Fin 512) (q : Fin 1792) :
    scales (grid0.coords t) (iblk m c 3 t : Vec Ideal S3584 .f32) (ix1 q) = (V m c main_arg3 : Vec Ideal S3584 .f32) (ix1 (place t p q 1)) := by
  obtain ⟨-, -, -, -, -, -, e6, e7, -⟩ := idx_facts t
  show V m c main_arg3 (((cfg0.win 3).blk t).view.emb ((Rect.unit (s := S3584) (k0_off1 (grid0.coords t)) S1792.size (k0_off1_inb _)).idx (ix1 q))) = _
  refine congrArg (V m c main_arg3) (funext fun a => Fin.ext ?_)
  match a with
  | ⟨0, _⟩ =>
    show win0_3.index t 0 * 3584 + 1 * (k0_off1 (grid0.coords t) 0 + 1 * q.val) = win0_5.index t 1 * 1792 + 1 * q.val
    rw [e6, e7]; omega

/-- Element `(p, q)` of the residual's block is the flattened residual's at `place`. -/
theorem res_at (c : Dev nD) (t : Fin cfg0.N) (p : Fin 512) (q : Fin 1792) :
    (iblk m c 4 t : Vec Ideal S512x1792 .bf16) (ix2 p q) = (V m c main_v2 : Vec Ideal S3072x3584 .bf16) (place t p q) := by
  obtain ⟨-, -, -, -, -, -, -, -, e8, e9⟩ := idx_facts t
  show V m c main_v2 (((cfg0.win 4).blk t).view.emb (ix2 p q)) = _
  refine congrArg (V m c main_v2) (funext fun a => Fin.ext ?_)
  match a with
  | ⟨0, _⟩ => show win0_4.index t 0 * 512 + 1 * p.val = win0_5.index t 0 * 512 + 1 * p.val; rw [e8]
  | ⟨1, _⟩ => show win0_4.index t 1 * 1792 + 1 * q.val = win0_5.index t 1 * 1792 + 1 * q.val; rw [e9]

/-- What point `t` writes back is the array formula's block there. -/
theorem flushed_eq (c : Dev nD) (t : Fin cfg0.N) (_ : (cfg0.win 5).flush t = true) :
    (dats m 0 c).flushed 5 t = ((cfg0.win 5).blk t).view.read (Elt Ideal) (result m c) := by
  show (cfg0.win 5).cut (grid0.coords t) ((dats m 0 c).after 5 t) = _
  rw [after0_5]
  unfold outsAt0
  rw [out_eq]
  funext y
  obtain ⟨p, q, rfl⟩ : ∃ (p : Fin 512) (q : Fin 1792), y = ix2 p q := ⟨y 0, y 1, eq_ix2 y⟩
  refine (Block.block_apply _ _ _ _ _ p q).trans ?_
  simp only [x_at m c t p q, xs_at m c t p q, w_at m c t p q, ws_at m c t p q, res_at m c t p q]
  rfl

/-- Every index of the array lies in some grid point's block. -/
theorem covered (i : S3072x3584.Idx) : ∃ t : Fin cfg0.N, (cfg0.win 5).flush t = true ∧ i ∈ ((cfg0.win 5).blk t).view.set := by
  have h0 : (i 0 : Nat) < 3072 := (i 0).isLt
  have h1 : (i 1 : Nat) < 3584 := (i 1).isLt
  obtain ⟨t, ea, eb⟩ := idx_onto ⟨(i 0 : Nat) / 512, by omega⟩ ⟨(i 1 : Nat) / 1792, by omega⟩
  refine ⟨t, flush0_5 t, ?_⟩
  show i ∈ ((View.whole main_v3).slice (win0_5.rect t)).set
  rw [View.set_slice_whole, Rect.mem_set_unit]
  intro a
  match a with
  | ⟨0, _⟩ =>
    show win0_5.index t 0 * 512 ≤ (i 0 : Nat) ∧ (i 0 : Nat) < win0_5.index t 0 * 512 + 512
    rw [ea]; dsimp only; omega
  | ⟨1, _⟩ =>
    show win0_5.index t 1 * 1792 ≤ (i 1 : Nat) ∧ (i 1 : Nat) < win0_5.index t 1 * 1792 + 1792
    rw [eb]; dsimp only; omega

/-- So the result array ends at the array formula. -/
theorem final (c : Dev nD) : (dats m 0 c).arrAt 5 cfg0.N = result m c :=
  (dats m 0 c).arrAt_eq_of_cover 5 (result m c) (flushed_eq m c) fun i => covered i

end Cert.Proof.Array

end
-- ==== Proof.Equation.lean ====
/-
  THE EQUATION, at the ideal instance: the tiled kernel's array formula, taken at the flattened arguments and reshaped to
  three axes, is the reference body's stored value at the arguments themselves (`array_eq_reference`).

  Row `1024 · b + s` of a flattened array is row `s` of batch `b`; both sides are then the same sum.
-/
module

public import proofs.«01_k».proof.Proof.Array

@[expose] public section

noncomputable section

namespace Cert.Proof.Equation

open Cert.KernelIdeal Cert.KernelIdeal.Gen Idealize.ShloMosaic
open scoped BigOperators

/-- Row `s` of batch `b` as a row of a flattened array. -/
abbrev row (b : Fin 3) (s : Fin 1024) : Fin 3072 := ⟨1024 * b.val + s.val, by omega⟩

/-- A flattened three-axis array at row `1024 · b + s` is the array at batch `b`, row `s`. -/
theorem flatten_apply {e : EltTy} (v : Vec Ideal S3x1024x3584 e) (b : Fin 3) (s : Fin 1024) (q : Fin 3584) :
    shapeCast S3072x3584 v shapeCasts_S3x1024x3584_S3072x3584 (ix2 (row b s) q) = v (ix3 b s q) := by
  refine shapeCast_apply v _ _ _ ?_
  rw [Shape.rowMajor_val_three, Shape.rowMajor_val_two]
  show (b.val * 1024 + s.val) * 3584 + q.val = (1024 * b.val + s.val) * 3584 + q.val
  omega

/-- The row scales laid out in one row, at entry `1024 · b + s`, are the row scale of batch `b`, row `s`. -/
theorem flatten_scale_apply (v : Vec Ideal S3x1024x1 .f32) (b : Fin 3) (s : Fin 1024) :
    shapeCast S1x3072 v shapeCasts_S3x1024x1_S1x3072 (ix2 0 (row b s)) = v (ix3 b s 0) := by
  refine shapeCast_apply v _ _ _ ?_
  rw [Shape.rowMajor_val_three, Shape.rowMajor_val_two]
  show (b.val * 1024 + s.val) * 1 + 0 = 0 * 3072 + (1024 * b.val + s.val)
  omega

/-- A two-axis array split into three batches, at batch `b`, row `s`, is the array at row `1024 · b + s`. -/
theorem split_apply {e : EltTy} (v : Vec Ideal S3072x3584 e) (b : Fin 3) (s : Fin 1024) (q : Fin 3584) :
    shapeCast S3x1024x3584 v shapeCasts_S3072x3584_S3x1024x3584 (ix3 b s q) = v (ix2 (row b s) q) := by
  refine shapeCast_apply v _ _ _ ?_
  rw [Shape.rowMajor_val_three, Shape.rowMajor_val_two]
  show (1024 * b.val + s.val) * 3584 + q.val = (b.val * 1024 + s.val) * 3584 + q.val
  omega

/-- The array formula at row `r`, column `q`. -/
theorem G_apply (x : Vec Ideal S3072x3584 .fp8e4m3) (xs : Vec Ideal S1x3072 .f32) (w : Vec Ideal S3584x3584 .fp8e4m3)
    (ws : Vec Ideal S3584 .f32) (res : Vec Ideal S3072x3584 .bf16) (r : Fin 3072) (q : Fin 3584) :
    (Array.G x xs w ws res (ix2 r q) : EReal)
      = (∑ k : Fin 3584, (x (ix2 r k) : EReal) * w (ix2 k q)) * xs (ix2 0 r) * ws (ix1 q) + res (ix2 r q) := rfl

/-- The kernel's result is the reference's: the array formula at the flattened arguments, split into batches, is the
    reference body's stored value at the arguments. -/
theorem array_eq_reference (x : Vec Ideal S3x1024x3584 .fp8e4m3) (xs : Vec Ideal S3x1024x1 .f32)
    (w : Vec Ideal S3584x3584 .fp8e4m3) (ws : Vec Ideal S3584 .f32) (res : Vec Ideal S3x1024x3584 .bf16) :
    shapeCast S3x1024x3584
        (Array.G (shapeCast S3072x3584 x shapeCasts_S3x1024x3584_S3072x3584)
          (shapeCast S1x3072 xs shapeCasts_S3x1024x1_S1x3072) w ws
          (shapeCast S3072x3584 res shapeCasts_S3x1024x3584_S3072x3584))
        shapeCasts_S3072x3584_S3x1024x3584
      = Cert.ReferenceIdeal.Gen.k0_pay1 x w xs ws res := by
  funext j
  obtain ⟨b, s, q, rfl⟩ : ∃ (b : Fin 3) (s : Fin 1024) (q : Fin 3584), j = ix3 b s q := ⟨j 0, j 1, j 2, eq_ix3 j⟩
  refine (split_apply _ b s q).trans ((G_apply _ _ _ _ _ _ _).trans ?_)
  rw [flatten_scale_apply, flatten_apply res, Finset.sum_congr rfl fun k _ => by rw [flatten_apply x b s k]]
  exact (Block.reference_apply x w xs ws res b s q).symm

end Cert.Proof.Equation

end
-- ==== Proof.Run.lean ====
/-
  THE KERNEL'S RUN, READ, at the ideal instance: the program's result is the array formula at the flattened arguments,
  split into batches, and the arguments end unchanged (`run`).

  Before the kernel the program flattens the activations, the row scales and the residual; after it, it splits the result
  into batches. `entry_*` and `exit_v4` read these reshapes.
-/
module

public import proofs.«01_k».proof.Proof.Array
public import Idealize.ShloMosaic.Lib.StableHlo.Run

@[expose] public section

noncomputable section

namespace Cert.Proof.Run

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The kernel is entered with the activations flattened. -/
theorem entry_v0 (c : Dev nD) : V m c main_v0
    = shapeCast S3072x3584 (m ((c : Thread nD τ).loc main_arg0)) shapeCasts_S3x1024x3584_S3072x3584 := by
  show after (List.flatten [hostOps0]) (fun b => m (c, b)) (Proc.devRef .tc main_v0) = _
  simp only [hostOps0, List.flatten_cons, List.flatten_nil, List.append_nil]
  after_results
  rfl

/-- The kernel is entered with the row scales laid out in one row. -/
theorem entry_v1 (c : Dev nD) : V m c main_v1
    = shapeCast S1x3072 (m ((c : Thread nD τ).loc main_arg1)) shapeCasts_S3x1024x1_S1x3072 := by
  show after (List.flatten [hostOps0]) (fun b => m (c, b)) (Proc.devRef .tc main_v1) = _
  simp only [hostOps0, List.flatten_cons, List.flatten_nil, List.append_nil]
  after_results
  rfl

/-- The kernel is entered with the residual flattened. -/
theorem entry_v2 (c : Dev nD) : V m c main_v2
    = shapeCast S3072x3584 (m ((c : Thread nD τ).loc main_arg4)) shapeCasts_S3x1024x3584_S3072x3584 := by
  show after (List.flatten [hostOps0]) (fun b => m (c, b)) (Proc.devRef .tc main_v2) = _
  simp only [hostOps0, List.flatten_cons, List.flatten_nil, List.append_nil]
  after_results
  rfl

/-- The program's result, as a function of its arguments. -/
abbrev value (c : Dev nD) : Vec Ideal S3x1024x3584 .bf16 :=
  shapeCast S3x1024x3584
    (Array.G (shapeCast S3072x3584 (m ((c : Thread nD τ).loc main_arg0)) shapeCasts_S3x1024x3584_S3072x3584)
      (shapeCast S1x3072 (m ((c : Thread nD τ).loc main_arg1)) shapeCasts_S3x1024x1_S1x3072)
      (m ((c : Thread nD τ).loc main_arg2)) (m ((c : Thread nD τ).loc main_arg3))
      (shapeCast S3072x3584 (m ((c : Thread nD τ).loc main_arg4)) shapeCasts_S3x1024x3584_S3072x3584))
    shapeCasts_S3072x3584_S3x1024x3584

/-- The array formula at the arrays the kernel is entered with is the formula at the flattened arguments. -/
theorem result_eq (c : Dev nD) : Array.result m c
    = Array.G (shapeCast S3072x3584 (m ((c : Thread nD τ).loc main_arg0)) shapeCasts_S3x1024x3584_S3072x3584)
      (shapeCast S1x3072 (m ((c : Thread nD τ).loc main_arg1)) shapeCasts_S3x1024x1_S1x3072)
      (m ((c : Thread nD τ).loc main_arg2)) (m ((c : Thread nD τ).loc main_arg3))
      (shapeCast S3072x3584 (m ((c : Thread nD τ).loc main_arg4)) shapeCasts_S3x1024x3584_S3072x3584) := by
  unfold Array.result
  rw [entry_v0, entry_v1, entry_v2, V_main_arg2, V_main_arg3]

/-- The last reshape reads the array the kernel leaves. -/
theorem exit_v4 (c : Dev nD) : Pipeline.afterTail₀ cfgs (dats m) 0 (V0 m) [hostOps1] c main_v4 = value m c := by
  show after (List.flatten [hostOps1]) (Pipeline.withArrays spec0 c (V0 m c) fun w => (dats m 0 c).arrAt w cfg0.N)
    (Proc.devRef .tc main_v4) = _
  simp only [hostOps1, List.flatten_cons, List.flatten_nil, List.append_nil]
  after_results
  have h : Pipeline.withArrays spec0 c (V0 m c) (fun w => (dats m 0 c).arrAt w cfg0.N) (Proc.devRef .tc main_v3)
      = Array.result m c :=
    (Pipeline.withArrays_arr spec0 (by decide) c (V0 m c) (fun w => (dats m 0 c).arrAt w cfg0.N) 5).trans (Array.final m c)
  unfold value
  rw [← result_eq m c, ← h]
  rfl

/-- The run: the program's result at its value, every argument unchanged. -/
theorem run : θ_run defs (onTc (τ := τ) (main (F := Ideal))) ⟨m, fun _ => 0, ρ⟩ fun r => ∀ c : Dev nD,
      r.2.mem ((c : Thread nD τ).loc main_v4) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono
    (fun _ h c => ⟨((h.1 c).2 main_v4 (Pipeline.mem_restRefs_of main_v4 (by decide) (by decide))).trans (exit_v4 m c), h.2 c⟩)
    (θ_run_and (run_main m ρ) (unchanged m ρ))

end Cert.Proof.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equation
public import proofs.«01_k».proof.Proof.Run
public import Idealize.ShloMosaic.Adequacy
public import Idealize.ShloMosaic.Init

@[expose] public section

noncomputable section

namespace Cert.Proof

open Idealize.ShloMosaic Idealize.SL.Sem Cert.Kernel

/-- At the ideal instance the tiled kernel and the reference end with equal results: the kernel's is its array formula at
    the flattened arguments (`Run.run`), the reference's its body's stored value (`ReferenceIdeal.Value.run`), and the
    two are equal (`Equation.array_eq_reference`). -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Run.value m c, Run.run m g, ?_⟩
  refine (θ_run _ _ _).mono (fun r h c => ?_) (Cert.ReferenceIdeal.Value.run m' g')
  obtain ⟨h0, h1, h2, h3, h4⟩ := hargs c
  refine ⟨(h c).1.trans ?_, (h c).2⟩
  rw [h0, h1, h2, h3, h4]
  exact (Equation.array_eq_reference _ _ _ _ _).symm

/-- The certificate: the three programs run to completion and leave their arguments unchanged; the ideal form of the
    kernel is the kernel operation for operation; and the kernel's result is the reference's. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
